-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_minus_infinity [hPre_above_minus_infinity : Cert.Pre_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_minus_infinity [hPre_above_minus_infinity : Cert.Pre_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_above_minus_infinity [hKernelIdeal : Cert.KernelIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_above_minus_infinity [hReferenceIdeal : Cert.ReferenceIdeal.Facts] [hPre_above_minus_infinity : Cert.Pre_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_above_minus_infinity [hKernelIdeal : Cert.KernelIdeal.Facts] [hReferenceIdeal : Cert.ReferenceIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_above_minus_infinity : Cert.Pre_above_minus_infinity.Facts),
    quiescent_Kernel (hKernel := hKernel)
    ∧ quiescent_KernelIdeal (hKernelIdeal := hKernelIdeal)
    ∧ quiescent_KernelIdeal_pre_above_minus_infinity (hKernelIdeal := hKernelIdeal) (hPre_above_minus_infinity := hPre_above_minus_infinity)
    ∧ quiescent_ReferenceIdeal (hReferenceIdeal := hReferenceIdeal)
    ∧ quiescent_ReferenceIdeal_pre_above_minus_infinity (hReferenceIdeal := hReferenceIdeal) (hPre_above_minus_infinity := hPre_above_minus_infinity)
    ∧ preserves_Kernel_KernelIdeal
    ∧ algebraic_KernelIdeal_ReferenceIdeal_pre_above_minus_infinity (hKernelIdeal := hKernelIdeal) (hReferenceIdeal := hReferenceIdeal) (hPre_above_minus_infinity := hPre_above_minus_infinity)
-- ==== Pre_above_minus_infinity.lean ====
abbrev S8x8192x512 : Shape := ⟨3, ![8, 8192, 512]⟩
abbrev S512 : Shape := ⟨1, ![512]⟩
abbrev S_ : Shape := ⟨0, ![]⟩

class Facts : Prop where
  bcast_S_S8x8192x512 : S_.BroadcastsInDim S8x8192x512 (![] : Fin 0 → Fin S8x8192x512.rank)

variable [Facts]

def fn {F : FTy → Type} [FloatOps F] (main_arg0 : FVec F S8x8192x512 .f32) (main_arg1 : FVec F S512 .f32) : IVec S8x8192x512 1 :=
  let main_cst : FVec F S_ .f32 := constant S_ .f32 0xFF800000#32
  let main_v0 : FVec F S8x8192x512 .f32 := broadcastInDim S8x8192x512 ![] bcast_S_S8x8192x512 main_cst
  let main_v1 : IVec S8x8192x512 1 := cmpf .ogt main_arg0 main_v0
  main_v1
-- ==== Kernel.lean ====
abbrev S8x8192x512 : Shape := ⟨3, ![8, 8192, 512]⟩
abbrev S512 : Shape := ⟨1, ![512]⟩
abbrev S1x512 : Shape := ⟨2, ![1, 512]⟩
abbrev S8x512x512 : Shape := ⟨3, ![8, 512, 512]⟩
abbrev S8x128 : Shape := ⟨2, ![8, 128]⟩
abbrev S512x512 : Shape := ⟨2, ![512, 512]⟩
abbrev S512x1 : Shape := ⟨2, ![512, 1]⟩
abbrev S1x512x512 : Shape := ⟨3, ![1, 512, 512]⟩
abbrev S512x16 : Shape := ⟨2, ![512, 16]⟩
abbrev S512x8 : Shape := ⟨2, ![512, 8]⟩
abbrev S1x8 : Shape := ⟨2, ![1, 8]⟩
abbrev S8 : Shape := ⟨1, ![8]⟩

abbrev nBuf : Space → Nat
  | .hbm => 4
  | .vmem => 7
  | .smem => 0
  | _ => 0

abbrev bufTy : (tb : Table) → Fin (tcTables nBuf tb) → BufTy
  | .hbm, ⟨0, _⟩ => ⟨S8x8192x512, .f32⟩
  | .hbm, ⟨1, _⟩ => ⟨S512, .f32⟩
  | .hbm, ⟨2, _⟩ => ⟨S1x512, .f32⟩
  | .hbm, ⟨3, _⟩ => ⟨S8x8192x512, .f32⟩
  | .local _ .vmem, ⟨0, _⟩ => ⟨S8x512x512, .f32⟩
  | .local _ .vmem, ⟨1, _⟩ => ⟨S8x512x512, .f32⟩
  | .local _ .vmem, ⟨2, _⟩ => ⟨S1x512, .f32⟩
  | .local _ .vmem, ⟨3, _⟩ => ⟨S8x512x512, .f32⟩
  | .local _ .vmem, ⟨4, _⟩ => ⟨S8x512x512, .f32⟩
  | .local _ .vmem, ⟨5, _⟩ => ⟨S8x128, .f32⟩
  | .local _ .vmem, ⟨6, _⟩ => ⟨S512x512, .bf16⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x8192x512 : Shape := ⟨3, ![8, 8192, 512]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S8192 : Shape := ⟨1, ![8192]⟩
abbrev S1x8192x1 : Shape := ⟨3, ![1, 8192, 1]⟩
abbrev S1x1x512 : Shape := ⟨3, ![1, 1, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S512, .f32⟩
  | .hbm, ⟨2, _⟩ => ⟨S_, .f32⟩
  | .hbm, ⟨3, _⟩ => ⟨S8x8192, .f32⟩
  | .hbm, ⟨4, _⟩ => ⟨S8x8192x1, .f32⟩
  | .hbm, ⟨5, _⟩ => ⟨S_, .f32⟩
  | .hbm, ⟨6, _⟩ => ⟨S_, .f32⟩
  | .hbm, ⟨7, _⟩ => ⟨S8x8192x1, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S8x8192x1, .f32⟩
  | .hbm, ⟨20, _⟩ => ⟨S8x8192x1, .f32⟩
  | .hbm, ⟨21, _⟩ => ⟨S8x8192x512, .f32⟩
  | .hbm, ⟨22, _⟩ => ⟨S8x8192x512, .f32⟩
  | .hbm, ⟨23, _⟩ => ⟨S8x8192x512, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S_, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8x8192x512, .f32⟩
  | .hbm, ⟨33, _⟩ => ⟨S8x8192x512, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x1, .f32⟩
  | .hbm, ⟨38, _⟩ => ⟨S8x8192x512, .f32⟩
  | .hbm, ⟨39, _⟩ => ⟨S8x8192x512, .f32⟩
  | .hbm, ⟨40, _⟩ => ⟨S1x1x512, .f32⟩
  | .hbm, ⟨41, _⟩ => ⟨S8x8192x512, .f32⟩
  | .hbm, ⟨42, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_call1_call0_cst : Ref sig .tc := ⟨.hbm, 27, rfl⟩
abbrev main_call1_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Series.lean ====
/-
  The mathematics of the cumulative normalisation of one batch row, over the extended reals and apart from any program. A row is
  a function of the frame and of the position in it. Two variances are stated: the one that sums the squared distances
  from the running means, and the one that takes what the running means contribute off the sum of squares. They lead to the
  same normalised element whenever no element is minus infinity.
-/
module

public import Idealize.ShloMosaic.Lib.IdealHost
public import Idealize.ShloMosaic.Lib.Pointwise

@[expose] public section

noncomputable section

namespace Cert.Series

open Idealize.ShloMosaic

/-- The printed constant 512 is the number 512. -/
theorem word_512 : Ideal.ofBits .f32 0x44000000#32 = ((512 : ℝ) : EReal) := by
  simp [Ideal.ofBits, Ideal.ieee, -EReal.coe_mul]
  norm_num

/-! ## Sums over frames, a block of 512 at a time -/

/-- A masked sum over a block after the frames before it is the sum over all frames up to the mask's. -/
theorem masked_sum (a : ℕ → EReal) (n : ℕ) (r : Fin 512) :
    (∑ j : Fin 512, (if j.val ≤ r.val then (1 : EReal) else 0) * a (512 * n + j.val)) + ∑ t ∈ Finset.range (512 * n), a t
      = ∑ t ∈ Finset.range (512 * n + r.val + 1), a t := by
  rw [add_assoc, Finset.sum_range_add, add_comm]
  congr 1
  simp only [ite_mul, one_mul, zero_mul]
  rw [Fin.sum_univ_eq_sum_range (fun j => if j ≤ r.val then a (512 * n + j) else 0) 512, ← Finset.sum_filter]
  refine Finset.sum_congr (Finset.ext fun j => ?_) fun _ _ => rfl
  have := r.isLt
  simp only [Finset.mem_filter, Finset.mem_range]
  omega

/-- The frames of a block after the frames before it. -/
theorem block_sum (a : ℕ → EReal) (n : ℕ) :
    (∑ t ∈ Finset.range (512 * n), a t) + ∑ j : Fin 512, a (512 * n + j.val) = ∑ t ∈ Finset.range (512 * (n + 1)), a t := by
  rw [Nat.mul_succ, Finset.sum_range_add, Fin.sum_univ_eq_sum_range (fun j => a (512 * n + j)) 512]

/-! ## Infinite terms -/

/-- A sum with a term minus infinity is minus infinity. -/
theorem sum_eq_bot {ι : Type} (s : Finset ι) (a : ι → EReal) (i : ι) (hi : i ∈ s) (h : a i = ⊥) : ∑ j ∈ s, a j = ⊥ := by
  classical
  rw [← Finset.add_sum_erase s a hi, h, EReal.bot_add]

/-- A sum without a term minus infinity is not minus infinity. -/
theorem sum_ne_bot {ι : Type} (s : Finset ι) (a : ι → EReal) (h : ∀ i ∈ s, a i ≠ ⊥) : ∑ j ∈ s, a j ≠ ⊥ := by
  classical
  induction s using Finset.induction_on with
  | empty => simp
  | insert x t hx ih =>
    rw [Finset.sum_insert hx]
    exact EReal.add_ne_bot_iff.2 ⟨h x (Finset.mem_insert_self _ _), ih fun i hi => h i (Finset.mem_insert_of_mem hi)⟩

/-- A sum with a term plus infinity and none minus infinity is plus infinity. -/
theorem sum_eq_top {ι : Type} (s : Finset ι) (a : ι → EReal) (h : ∀ i ∈ s, a i ≠ ⊥) (i : ι) (hi : i ∈ s) (ht : a i = ⊤) :
    ∑ j ∈ s, a j = ⊤ := by
  classical
  rw [← Finset.add_sum_erase s a hi, ht]
  exact EReal.top_add_of_ne_bot (sum_ne_bot _ _ fun j hj => h j (Finset.mem_of_mem_erase hj))

/-- A square is not minus infinity. -/
theorem sq_ne_bot (x : EReal) : x * x ≠ ⊥ := by
  induction x with
  | bot => simp
  | top => simp
  | coe r => rw [← EReal.coe_mul]; exact EReal.coe_ne_bot _

/-- A sum of real numbers, as an extended real. -/
theorem coe_sum {ι : Type} (s : Finset ι) (a : ι → ℝ) : ((∑ i ∈ s, a i : ℝ) : EReal) = ∑ i ∈ s, (a i : EReal) := by
  classical
  induction s using Finset.induction_on with
  | empty => simp
  | insert x t hx ih => rw [Finset.sum_insert hx, Finset.sum_insert hx, EReal.coe_add, ih]

/-! ## One batch row -/

section Row

variable (f : ℕ → Fin 512 → EReal)

/-- The sum of a frame. -/
def frame (t : ℕ) : EReal := ∑ c : Fin 512, f t c
/-- The sum of a frame's squares. -/
def frameSq (t : ℕ) : EReal := ∑ c : Fin 512, f t c * f t c
/-- The number of elements up to a frame. -/
def counted (t : ℕ) : ℝ := ((t + 1 : ℕ) : ℝ) * 512
/-- The running mean: of every element up to a frame. -/
def runMean (t : ℕ) : EReal := (∑ u ∈ Finset.range (t + 1), frame f u) * Ideal.div 1 (counted t : EReal)
/-- What the running mean takes off a frame's squares. -/
def takeOff (t : ℕ) : EReal := runMean f t * (((2 : ℝ) : EReal) * frame f t - ((512 : ℝ) : EReal) * runMean f t)
/-- The variance from squares and what the running means take off them. -/
def varSquares (t : ℕ) : EReal :=
  ((∑ u ∈ Finset.range (t + 1), frameSq f u) - ∑ u ∈ Finset.range (t + 1), takeOff f u) * Ideal.div 1 (counted t : EReal)
/-- The variance from the squared distances to the running means. -/
def varDistances (t : ℕ) : EReal :=
  (∑ u ∈ Finset.range (t + 1), ∑ c : Fin 512, (f u c - runMean f u) * (f u c - runMean f u)) * Ideal.div 1 (counted t : EReal)

/-- The number of elements is positive. -/
theorem counted_pos (t : ℕ) : 0 < counted t := by unfold counted; positivity

/-- The reciprocal of the number of elements, as a real number. -/
theorem recip_counted (t : ℕ) : Ideal.div 1 (counted t : EReal) = (((counted t)⁻¹ : ℝ) : EReal) := by
  have h : ((counted t : ℝ) : EReal) ≠ 0 := by exact_mod_cast (counted_pos t).ne'
  unfold Ideal.div
  rw [if_neg h, one_mul, EReal.coe_inv]

/-- Infinity over the number of elements is infinity. -/
theorem top_mul_recip (t : ℕ) : (⊤ : EReal) * Ideal.div 1 (counted t : EReal) = ⊤ := by
  rw [recip_counted, EReal.top_mul_coe_of_pos (inv_pos.2 (counted_pos t))]

/-- Where every element up to a frame is a real number, the two variances up to it are equal. -/
theorem var_eq_of_real (T : ℕ) (g : ℕ → Fin 512 → ℝ) (h : ∀ t, t ≤ T → ∀ c, f t c = (g t c : EReal)) :
    varSquares f T = varDistances f T := by
  have hframe (t : ℕ) (ht : t ≤ T) : frame f t = ((∑ c, g t c : ℝ) : EReal) := by
    rw [coe_sum]; exact Finset.sum_congr rfl fun c _ => h t ht c
  have hsq (t : ℕ) (ht : t ≤ T) : frameSq f t = ((∑ c, g t c * g t c : ℝ) : EReal) := by
    rw [coe_sum]; exact Finset.sum_congr rfl fun c _ => by rw [h t ht c, EReal.coe_mul]
  have hmean (t : ℕ) (ht : t ≤ T) : runMean f t = (((∑ u ∈ Finset.range (t + 1), ∑ c, g u c) * (counted t)⁻¹ : ℝ) : EReal) := by
    unfold runMean
    rw [recip_counted, EReal.coe_mul, coe_sum]
    exact congrArg (· * _) (Finset.sum_congr rfl fun u hu => hframe u (by have := Finset.mem_range.1 hu; omega))
  generalize hμ : (fun t => (∑ u ∈ Finset.range (t + 1), ∑ c, g u c) * (counted t)⁻¹) = μ at hmean
  replace hmean (t : ℕ) (ht : t ≤ T) : runMean f t = (μ t : EReal) := by rw [hmean t ht, ← hμ]
  have hoff (t : ℕ) (ht : t ≤ T) : takeOff f t = ((μ t * (2 * (∑ c, g t c) - 512 * μ t) : ℝ) : EReal) := by
    unfold takeOff
    rw [hmean t ht, hframe t ht]
    norm_cast
  have hdist (t : ℕ) (ht : t ≤ T) : (∑ c : Fin 512, (f t c - runMean f t) * (f t c - runMean f t))
      = (((∑ c, g t c * g t c) - μ t * (2 * (∑ c, g t c) - 512 * μ t) : ℝ) : EReal) := by
    have e : (∑ c, g t c * g t c) - μ t * (2 * (∑ c, g t c) - 512 * μ t) = ∑ c : Fin 512, (g t c - μ t) * (g t c - μ t) := by
      have e1 (c : Fin 512) : (g t c - μ t) * (g t c - μ t) = g t c * g t c - 2 * μ t * g t c + μ t * μ t := by ring
      simp only [e1, Finset.sum_add_distrib, Finset.sum_sub_distrib, ← Finset.mul_sum, Finset.sum_const, Finset.card_univ, Fintype.card_fin, nsmul_eq_mul]
      push_cast
      ring
    rw [e, coe_sum]
    refine Finset.sum_congr rfl fun c _ => ?_
    rw [h t ht c, hmean t ht]
    norm_cast
  unfold varSquares varDistances
  congr 1
  rw [Finset.sum_congr rfl fun u hu => hsq u (by have := Finset.mem_range.1 hu; omega),
    Finset.sum_congr rfl fun u hu => hoff u (by have := Finset.mem_range.1 hu; omega),
    Finset.sum_congr rfl fun u hu => hdist u (by have := Finset.mem_range.1 hu; omega),
    ← coe_sum, ← coe_sum, ← coe_sum, ← EReal.coe_sub, Finset.sum_sub_distrib]

/-- Where no element is minus infinity and one up to a frame is plus infinity, the mean up to it is plus infinity. -/
theorem runMean_eq_top (hf : ∀ t c, f t c ≠ ⊥) (T t : ℕ) (ht : t ≤ T) (c : Fin 512) (h : f t c = ⊤) : runMean f T = ⊤ := by
  unfold runMean frame
  rw [sum_eq_top _ _ (fun u _ => sum_ne_bot _ _ fun c _ => hf u c) t (by simp; omega)
    (sum_eq_top _ _ (fun c _ => hf t c) c (Finset.mem_univ _) h), top_mul_recip]

/-- … and so is the variance from the distances: the frame's own distances are infinite. -/
theorem varDistances_eq_top (T : ℕ) (h : runMean f T = ⊤) : varDistances f T = ⊤ := by
  unfold varDistances
  rw [sum_eq_top _ _ (fun u _ => sum_ne_bot _ _ fun c _ => sq_ne_bot _) T (by simp)
    (sum_eq_top _ _ (fun c _ => sq_ne_bot _) 0 (Finset.mem_univ _) (by rw [h, EReal.sub_top, EReal.bot_mul_bot])), top_mul_recip]

/-- … and so is the variance from the squares: what the mean takes off the frame is minus infinity. -/
theorem varSquares_eq_top (T t : ℕ) (ht : t ≤ T) (c : Fin 512) (hc : f t c = ⊤) (h : runMean f T = ⊤) : varSquares f T = ⊤ := by
  have hoff : takeOff f T = ⊥ := by
    unfold takeOff
    rw [h, EReal.coe_mul_top_of_pos (by norm_num), EReal.sub_top, EReal.top_mul_bot]
  unfold varSquares frameSq
  rw [sum_eq_bot _ _ T (by simp) hoff, sum_eq_top _ _ (fun u _ => sum_ne_bot _ _ fun c _ => sq_ne_bot _) t (by simp; omega)
    (sum_eq_top _ _ (fun c _ => sq_ne_bot _) c (Finset.mem_univ _) (by rw [hc, EReal.top_mul_top])), EReal.top_sub_bot, top_mul_recip]

/-- The two variances are equal wherever no element is minus infinity. -/
theorem var_eq (hf : ∀ t c, f t c ≠ ⊥) (T : ℕ) : varSquares f T = varDistances f T := by
  by_cases h : ∃ t, t ≤ T ∧ ∃ c, f t c = ⊤
  · obtain ⟨t, ht, c, hc⟩ := h
    have hm := runMean_eq_top f hf T t ht c hc
    rw [varSquares_eq_top f T t ht c hc hm, varDistances_eq_top f T hm]
  · refine var_eq_of_real f T (fun t c => (f t c).toReal) fun t ht c => (EReal.coe_toReal (fun e => h ⟨t, ht, c, e⟩) (hf t c)).symm

/-- The normalised element: less the running mean, times the reciprocal root of the variance and a small constant, times the weight. -/
def normed (var : EReal) (w : EReal) (t : ℕ) (c : Fin 512) : EReal :=
  (f t c - runMean f t) * Ideal.rsqrt (var + Ideal.ofBits .f32 0x3727C5AC#32) * w

end Row

/-- Batch row `b` of the input array, zero past its last frame. -/
def rowOf (x : (⟨3, ![8, 8192, 512]⟩ : Shape).Idx → EReal) (b : Fin 8) (t : ℕ) (c : Fin 512) : EReal :=
  if h : t < 8192 then x (ix3 b ⟨t, h⟩ c) else 0

/-- A batch row at a frame of the array. -/
theorem rowOf_apply (x : (⟨3, ![8, 8192, 512]⟩ : Shape).Idx → EReal) (b : Fin 8) (t : Fin 8192) (c : Fin 512) :
    rowOf x b t.val c = x (ix3 b t c) := dif_pos t.isLt

/-- A batch row of an array without minus infinity has none. -/
theorem rowOf_ne_bot (x : (⟨3, ![8, 8192, 512]⟩ : Shape).Idx → EReal) (hx : ∀ i, x i ≠ ⊥) (b : Fin 8) (t : ℕ) (c : Fin 512) :
    rowOf x b t c ≠ ⊥ := by
  unfold rowOf
  split
  · exact hx _
  · exact EReal.zero_ne_bot

end Cert.Series

end
-- ==== Proof.Block.lean ====
module

public import proofs.«01_k».proof.Proof.Gen.KernelIdeal.Value
public import proofs.«01_k».proof.Proof.Series
public import Idealize.ShloMosaic.Lib.Pipeline.ReadBack
public import Idealize.ShloMosaic.Lib.Pipeline.ValueKit.Tiles
public import Idealize.ShloMosaic.Lib.MatmulPlain
public import Idealize.ShloMosaic.Lib.ValueLayout
public import Idealize.ShloMosaic.Lib.IdealHost
public import Idealize.ShloMosaic.Lib.Tactic
public import Idealize.ShloMosaic.Lib.Pointwise

/-!
What one grid point of the kernel computes, read at an index.

A point holds a block of 512 frames of all 8 batch rows (`X`), the weight row (`w`), the running sums carried
from the points before it (`k0`, `k1`, `k2`: one number per batch row each) and the lower-triangular matrix of
ones (`L`). The definitions below name the arrays the kernel body forms from them, and each theorem says what
one entry of such an array is.
-/

@[expose] public section

set_option maxRecDepth 16384

noncomputable section

namespace Cert.KernelIdeal.Block

open Cert.KernelIdeal Cert.KernelIdeal.Gen
open Idealize.ShloMosaic Idealize.ShloMosaic.TcCoe Cert.Series

/-- A slab of one batch row lies inside the block. -/
theorem inbG (g : Fin 8) : ∀ a, (![g.val, 0, 0] : Fin 3 → ℕ) a + (![1, 512, 512] : Fin 3 → ℕ) a ≤ S8x512x512.size a := by
  have := g.isLt
  intro a
  match a with
  | ⟨0, _⟩ => show g.val + 1 ≤ 8; omega
  | ⟨1, _⟩ => show 0 + 512 ≤ 512; omega
  | ⟨2, _⟩ => show 0 + 512 ≤ 512; omega

/-- The slab of batch row `g`, as the body loads it. -/
def slab (X : Vec Ideal S8x512x512 .f32) (g : Fin 8) : Vec Ideal S1x512x512 .f32 :=
  View.ld X (Rect.unit (s := S8x512x512) ![g.val, 0, 0] ![1, 512, 512] (inbG g))

/-- An element of the slab is the block's element of that batch row. -/
theorem slab_apply (X : Vec Ideal S8x512x512 .f32) (g : Fin 8) (z : Fin 1) (r c : Fin 512) :
    slab X g (ix3 z r c) = X (ix3 g r c) := by
  refine View.ld_unit_apply_of (S := S8x512x512) X _ _ (inbG g) (ix3 z r c) (ix3 g r c) fun a => ?_
  match a with
  | ⟨0, _⟩ => show g.val = g.val + z.val; omega
  | ⟨1, _⟩ => show r.val = 0 + r.val; omega
  | ⟨2, _⟩ => show c.val = 0 + c.val; omega

/-- The sum over the channels of batch row `g` at frame `r` of the block. -/
def rowS (X : Vec Ideal S8x512x512 .f32) (g : Fin 8) (r : Fin 512) : EReal := ∑ c : Fin 512, X (ix3 g r c)

/-- The sum over the channels of the squares of batch row `g` at frame `r` of the block. -/
def rowQ (X : Vec Ideal S8x512x512 .f32) (g : Fin 8) (r : Fin 512) : EReal :=
  ∑ c : Fin 512, X (ix3 g r c) * X (ix3 g r c)

/-- The column of channel sums the body forms from a slab. -/
theorem pay7_apply (X : Vec Ideal S8x512x512 .f32) (g : Fin 8) (r : Fin 512) (z : Fin 1) :
    k0_pay7 (slab X g) (ix2 r z) = rowS X g r := by
  unfold_payloads
  pointwise [slab_apply]
  rfl

/-- The column of channel sums of squares the body forms from a slab. -/
theorem pay8_apply (X : Vec Ideal S8x512x512 .f32) (g : Fin 8) (r : Fin 512) (z : Fin 1) :
    k0_pay8 (slab X g) (ix2 r z) = rowQ X g r := by
  unfold_payloads
  pointwise [slab_apply]
  rfl

/-- The sixteen columns the first product is taken of: the eight columns of sums, then the eight of sums of squares. -/
def cols (X : Vec Ideal S8x512x512 .f32) : FVec Ideal S512x16 .f32 :=
  k0_pay30 (k0_pay7 (slab X 0)) (k0_pay8 (slab X 0)) (k0_pay7 (slab X 1)) (k0_pay8 (slab X 1)) (k0_pay7 (slab X 2)) (k0_pay8 (slab X 2))
    (k0_pay7 (slab X 3)) (k0_pay8 (slab X 3)) (k0_pay7 (slab X 4)) (k0_pay8 (slab X 4)) (k0_pay7 (slab X 5)) (k0_pay8 (slab X 5))
    (k0_pay7 (slab X 6)) (k0_pay8 (slab X 6)) (k0_pay28 (slab X 7)) (k0_pay29 (slab X 7))

/-- A column of sums stands in the place of its batch row. -/
theorem cols_low (X : Vec Ideal S8x512x512 .f32) (r : Fin 512) (k : Fin 16) (i : S512x1.Idx) (g : Fin 8) (hk : k.val = g.val)
    (hi : (i 0).val = r.val) :
    k0_pay7 (slab X g) i = if h : k.val < 8 then rowS X ⟨k.val, h⟩ r else rowQ X ⟨k.val - 8, by omega⟩ r := by
  have hg := g.isLt
  idx_vars i
  rw [dif_pos (by omega), pay7_apply]
  congr 1
  · exact Fin.ext hk.symm
  · exact Fin.ext hi

/-- A column of sums of squares stands eight places after its batch row. -/
theorem cols_high (X : Vec Ideal S8x512x512 .f32) (r : Fin 512) (k : Fin 16) (i : S512x1.Idx) (g : Fin 8) (hk : k.val = 8 + g.val)
    (hi : (i 0).val = r.val) :
    k0_pay8 (slab X g) i = if h : k.val < 8 then rowS X ⟨k.val, h⟩ r else rowQ X ⟨k.val - 8, by omega⟩ r := by
  have hg := g.isLt
  idx_vars i
  rw [dif_neg (by omega), pay8_apply]
  congr 1
  · exact Fin.ext (by show g.val = k.val - 8; omega)
  · exact Fin.ext hi

/-- Column `k` of the sixteen: for `k < 8` the sums of batch row `k`, else the sums of squares of batch row `k - 8`. -/
theorem cols_apply (X : Vec Ideal S8x512x512 .f32) (r : Fin 512) (k : Fin 16) :
    cols X (ix2 r k) = if h : k.val < 8 then rowS X ⟨k.val, h⟩ r else rowQ X ⟨k.val - 8, by omega⟩ r := by
  unfold cols k0_pay30
  dsimp only
  concat_tiles i h
  all_goals first | (refine cols_low X r k i _ ?_ h0; exact h) | (refine cols_high X r k i _ ?_ h0; exact h)

/-- The first eight columns hold the sums. -/
theorem cols_sum (X : Vec Ideal S8x512x512 .f32) (r : Fin 512) (g : Fin 8) (h : g.val < 16) :
    cols X (ix2 r ⟨g.val, h⟩) = rowS X g r := by
  rw [cols_apply, dif_pos g.isLt]

/-- The last eight columns hold the sums of squares. -/
theorem cols_sq (X : Vec Ideal S8x512x512 .f32) (r : Fin 512) (g : Fin 8) (h : 8 + g.val < 16) :
    cols X (ix2 r ⟨8 + g.val, h⟩) = rowQ X g r := by
  rw [cols_apply, dif_neg (by show ¬ (8 + g.val < 8); omega)]
  congr 1
  exact Fin.ext (by show 8 + g.val - 8 = g.val; omega)

/-- The first product, of any matrix with any sixteen columns, at an entry. -/
theorem dot16_apply (L : FVec Ideal S512x512 .bf16) (v : FVec Ideal S512x16 .bf16) (r : Fin 512) (k : Fin 16) :
    matmul dot_S512x512_S512x16_S512x16_1_0_0_1_n_n none L v (constant (F := Ideal) S512x16 .f32 0x00000000#32) (ix2 r k)
      = ∑ j : Fin 512, L (ix2 r j) * v (ix2 j k) := by
  have h := Ideal.matmul_plain_apply (M := 512) (K := 512) (N := 16) none L v (constant (F := Ideal) S512x16 .f32 0x00000000#32) r k
  simp only [← ix2_eq_valueIdx] at h
  refine Eq.trans ?_ (h.trans ?_)
  · rfl
  · pointwise

/-- The second product, of any matrix with any eight columns, at an entry. -/
theorem dot8_apply (L : FVec Ideal S512x512 .bf16) (v : FVec Ideal S512x8 .bf16) (r : Fin 512) (k : Fin 8) :
    matmul dot_S512x512_S512x8_S512x8_1_0_0_1_n_n none L v (constant (F := Ideal) S512x8 .f32 0x00000000#32) (ix2 r k)
      = ∑ j : Fin 512, L (ix2 r j) * v (ix2 j k) := by
  have h := Ideal.matmul_plain_apply (M := 512) (K := 512) (N := 8) none L v (constant (F := Ideal) S512x8 .f32 0x00000000#32) r k
  simp only [← ix2_eq_valueIdx] at h
  refine Eq.trans ?_ (h.trans ?_)
  · rfl
  · pointwise

/-- The printed constant 2 is the number 2. -/
theorem word_2 : Ideal.ofBits .f32 0x40000000#32 = ((2 : ℝ) : EReal) := by
  simp [Ideal.ofBits, Ideal.ieee, -EReal.coe_mul]
  norm_num

/-- The lower-triangular matrix of ones: 1 on and below the diagonal, 0 above. -/
theorem tri_apply (r j : Fin 512) : (k0_pay3 (F := Ideal)) (ix2 r j) = if j.val ≤ r.val then 1 else 0 := by
  have hr := r.isLt
  have hj := j.isLt
  unfold_payloads
  pointwise
  rw [WordCmp.cmpi_sle_ofNat (by omega) (by omega)]
  show ((BitVec.toInt _ : ℝ) : EReal) = _
  by_cases h : j.val ≤ r.val
  · simp [h]
  · simp [h]

/-- The reciprocal of the number of elements counted up to frame `r` of the block at point `i`. -/
theorem rcp_apply (i : grid0.Coords) (r : Fin 512) (z : Fin 1) :
    (k0_pay5 (F := Ideal) i) (ix2 r z) = Ideal.div 1 (((((i 1).val * 512 + 1 + r.val : ℕ) : ℝ) * 512 : ℝ) : EReal) := by
  have hr := r.isLt
  have hi : (i 1).val < 16 := (i 1).isLt
  unfold_payloads
  pointwise
  rw [word_512]
  generalize (i 1).val = n at hi ⊢
  have hw : IntOp.addi (Scalar.addi (Scalar.muli (BitVec.ofNat 32 n) 512#32) 1#32) (BitVec.ofNat 32 r.val)
      = BitVec.ofNat 32 (n * 512 + 1 + r.val) := by
    show BitVec.ofNat 32 n * 512#32 + 1#32 + BitVec.ofNat 32 r.val = _
    apply BitVec.eq_of_toNat_eq
    simp
  rw [hw]
  show Ideal.div 1 (((BitVec.toInt _ : ℝ) : EReal) * _) = _
  rw [BitVec.toInt_ofNat', Int.bmod_eq_of_le (by omega) (by omega), ← EReal.coe_mul]
  norm_cast

section Stats

variable (L : Vec Ideal S512x512 .bf16) (i : grid0.Coords) (X : Vec Ideal S8x512x512 .f32) (k0 k1 k2 : Vec Ideal S1x8 .f32)

/-- The means up to each frame of the block, a column per batch row. -/
def mean : FVec Ideal S512x8 .f32 :=
  k0_pay33 L (k0_pay5 i) (k0_pay7 (slab X 0)) (k0_pay8 (slab X 0)) (k0_pay7 (slab X 1)) (k0_pay8 (slab X 1)) (k0_pay7 (slab X 2)) (k0_pay8 (slab X 2))
    (k0_pay7 (slab X 3)) (k0_pay8 (slab X 3)) (k0_pay7 (slab X 4)) (k0_pay8 (slab X 4)) (k0_pay7 (slab X 5)) (k0_pay8 (slab X 5))
    (k0_pay7 (slab X 6)) (k0_pay8 (slab X 6)) (k0_pay28 (slab X 7)) (k0_pay29 (slab X 7)) k0

/-- What the mean takes off the sum of squares at each frame, a column per batch row. -/
def corr : FVec Ideal S512x8 .f32 :=
  k0_pay34 L (k0_pay5 i) (k0_pay7 (slab X 0)) (k0_pay8 (slab X 0)) (k0_pay7 (slab X 1)) (k0_pay8 (slab X 1)) (k0_pay7 (slab X 2)) (k0_pay8 (slab X 2))
    (k0_pay7 (slab X 3)) (k0_pay8 (slab X 3)) (k0_pay7 (slab X 4)) (k0_pay8 (slab X 4)) (k0_pay7 (slab X 5)) (k0_pay8 (slab X 5))
    (k0_pay7 (slab X 6)) (k0_pay8 (slab X 6)) (k0_pay28 (slab X 7)) (k0_pay29 (slab X 7)) k0

/-- The reciprocal standard deviations up to each frame, a column per batch row. -/
def inv : FVec Ideal S512x8 .f32 :=
  k0_pay35 L (k0_pay5 i) (k0_pay7 (slab X 0)) (k0_pay8 (slab X 0)) (k0_pay7 (slab X 1)) (k0_pay8 (slab X 1)) (k0_pay7 (slab X 2)) (k0_pay8 (slab X 2))
    (k0_pay7 (slab X 3)) (k0_pay8 (slab X 3)) (k0_pay7 (slab X 4)) (k0_pay8 (slab X 4)) (k0_pay7 (slab X 5)) (k0_pay8 (slab X 5))
    (k0_pay7 (slab X 6)) (k0_pay8 (slab X 6)) (k0_pay28 (slab X 7)) (k0_pay29 (slab X 7)) k0 k1 k2

/-- A mean: the sum up to the frame, in this block and before it, times the reciprocal of the count. -/
theorem mean_apply (r : Fin 512) (g : Fin 8) :
    mean L i X k0 (ix2 r g)
      = ((∑ j : Fin 512, L (ix2 r j) * rowS X g j) + k0 (ix2 0 g)) * (k0_pay5 (F := Ideal) i) (ix2 r 0) := by
  unfold mean k0_pay33 k0_pay31
  change mulf (addf (extractStridedSlice S512x8 ![0, 0] (matmul dot_S512x512_S512x16_S512x16_1_0_0_1_n_n none L (truncf .bf16 (cols X) bitsLt_bf16_f32)
    (constant (F := Ideal) S512x16 .f32 0x00000000#32)) slices_S512x16_o0_0_S512x8) (broadcastTo S512x8 k0 broadcasts_S1x8_S512x8))
    (broadcastTo S512x8 (k0_pay5 i) broadcasts_S512x1_S512x8) (ix2 r g) = _
  pointwise [dot16_apply, cols_sum]

/-- What the mean takes off the sum of squares: the mean times (twice the frame's sum less 512 means). -/
theorem corr_apply (r : Fin 512) (g : Fin 8) :
    corr L i X k0 (ix2 r g)
      = mean L i X k0 (ix2 r g) * (((2 : ℝ) : EReal) * rowS X g r - ((512 : ℝ) : EReal) * mean L i X k0 (ix2 r g)) := by
  unfold corr k0_pay34 k0_pay32
  change mulf (mean L i X k0) (subf (mulf (broadcast S512x8 (Scalar.ofBits .f32 0x40000000#32)) (extractStridedSlice S512x8 ![0, 0] (cols X) slices_S512x16_o0_0_S512x8))
    (mulf (broadcast S512x8 (Scalar.ofBits .f32 0x44000000#32)) (mean L i X k0))) (ix2 r g) = _
  pointwise [cols_sum, word_512, word_2]

/-- A reciprocal standard deviation: of (squares less corrections, both summed up to the frame, times the reciprocal of the
count, plus the small constant). -/
theorem inv_apply (r : Fin 512) (g : Fin 8) :
    inv L i X k0 k1 k2 (ix2 r g)
      = Ideal.rsqrt ((((∑ j : Fin 512, L (ix2 r j) * rowQ X g j) + k1 (ix2 0 g))
          - ((∑ j : Fin 512, L (ix2 r j) * corr L i X k0 (ix2 j g)) + k2 (ix2 0 g))) * (k0_pay5 (F := Ideal) i) (ix2 r 0)
          + Ideal.ofBits .f32 0x3727C5AC#32) := by
  unfold inv k0_pay35 k0_pay31
  change rsqrt (addf (mulf (subf (addf (extractStridedSlice S512x8 ![0, 8] (matmul dot_S512x512_S512x16_S512x16_1_0_0_1_n_n none L (truncf .bf16 (cols X) bitsLt_bf16_f32)
    (constant (F := Ideal) S512x16 .f32 0x00000000#32)) slices_S512x16_o0_8_S512x8) (broadcastTo S512x8 k1 broadcasts_S1x8_S512x8))
    (addf (matmul dot_S512x512_S512x8_S512x8_1_0_0_1_n_n none L (truncf .bf16 (corr L i X k0) bitsLt_bf16_f32) (constant (F := Ideal) S512x8 .f32 0x00000000#32))
      (broadcastTo S512x8 k2 broadcasts_S1x8_S512x8)))
    (broadcastTo S512x8 (k0_pay5 i) broadcasts_S512x1_S512x8)) (broadcast S512x8 (Scalar.ofBits .f32 0x3727C5AC#32))) (ix2 r g) = _
  pointwise [dot16_apply, dot8_apply, cols_sq]

end Stats

/-- What the body stores for one batch row: from the slab the means taken off, times the reciprocal standard deviation, times the weight. -/
theorem outPay_apply (o : ℕ) (ho : o < 8) (hs : S512x8.Slices ![0, o] S512x1) (m v : FVec Ideal S512x8 .f32) (w : FVec Ideal S1x512 .f32)
    (x : Vec Ideal S1x512x512 .f32) (z : Fin 1) (r c : Fin 512) :
    shapeCast S1x512x512 (mulf (mulf (subf (shapeCast S512x512 x shapeCasts_S1x512x512_S512x512)
        (broadcastTo S512x512 (extractStridedSlice S512x1 ![0, o] m hs) broadcasts_S512x1_S512x512))
        (broadcastTo S512x512 (extractStridedSlice S512x1 ![0, o] v hs) broadcasts_S512x1_S512x512))
        (broadcastTo S512x512 w broadcasts_S1x512_S512x512)) shapeCasts_S512x512_S1x512x512 (ix3 z r c)
      = (x (ix3 0 r c) - m (ix2 r ⟨o, ho⟩)) * v (ix2 r ⟨o, ho⟩) * w (ix2 0 c) := by
  pointwise

/-- The sum a point adds to a carried row: the row before it plus the column sums. -/
theorem colSum_apply (v : FVec Ideal S512x8 .f32) (k : Vec Ideal S1x8 .f32) (z : Fin 1) (g : Fin 8) :
    shapeCast S1x8 (addf k (shapeCast S1x8 (multiReduction .add [0] S8 v 0x00000000#32 reduces_S512x8_S8 (.inl rfl) rfl) shapeCasts_S8_S1x8))
      shapeCasts_S1x8_S1x8 (ix2 z g) = k (ix2 0 g) + ∑ r : Fin 512, v (ix2 r g) := by
  obtain rfl : z = 0 := Subsingleton.elim _ _
  pointwise

end Cert.KernelIdeal.Block

end
-- ==== Proof.ReadBack.lean ====
/-
  What one run of the kernel's body leaves, read at an index: the output block, the three carried rows, and the triangular
  matrix, as functions of the input block and of what the run found carried. The first run writes zeros and the matrix itself
  and the later runs find them, but both leave the same functions of what is carried.
-/
module

public import proofs.«01_k».proof.Proof.Block
public import Idealize.ShloMosaic.Lib.WritesUnit

@[expose] public section

set_option maxRecDepth 16384

noncomputable section

namespace Cert.KernelIdeal.Block

open Cert.KernelIdeal Cert.KernelIdeal.Gen Idealize.ShloMosaic Idealize.ShloMosaic.TcCoe

/-- Row `q` of the carried array, its first eight columns. -/
theorem inbK (q : Fin 3) (a : Fin 2) : (![q.val, 0] : Fin 2 → ℕ) a + (![1, 8] : Fin 2 → ℕ) a ≤ S8x128.size a := by
  have := q.isLt
  match a with
  | 0 => show q.val + 1 ≤ 8; omega
  | 1 => show 0 + 8 ≤ 128; omega

/-- Row `q` of the carried array, its first eight columns. -/
def row (k : Vec Ideal S8x128 .f32) (q : Fin 3) : Vec Ideal S1x8 .f32 :=
  View.ld k (Rect.unit (s := S8x128) ![q.val, 0] ![1, 8] (inbK q))

section

variable (L : Vec Ideal S512x512 .bf16) (i : grid0.Coords) (X : Vec Ideal S8x512x512 .f32) (W : Vec Ideal S1x512 .f32)
  (k : Vec Ideal S8x128 .f32)

/-- What the body stores for batch row `g`, as the whole operation. -/
def outPay (g : ℕ) (hs : S512x8.Slices ![0, g] S512x1) (x : Vec Ideal S1x512x512 .f32) : FVec Ideal S1x512x512 .f32 :=
  shapeCast S1x512x512 (mulf (mulf (subf (shapeCast S512x512 x shapeCasts_S1x512x512_S512x512)
        (broadcastTo S512x512 (extractStridedSlice S512x1 ![0, g] (mean L i X (row k 0)) hs) broadcasts_S512x1_S512x512))
        (broadcastTo S512x512 (extractStridedSlice S512x1 ![0, g] (inv L i X (row k 0) (row k 1) (row k 2)) hs) broadcasts_S512x1_S512x512))
        (broadcastTo S512x512 (k0_pay4 W) broadcasts_S1x512_S512x512)) shapeCasts_S512x512_S1x512x512

/-- The output block at an index: the element less its mean, times the reciprocal standard deviation, times its weight. -/
def outAt (y : S8x512x512.Idx) : EReal :=
  (X y - mean L i X (row k 0) (ix2 (y 1) (y 0))) * inv L i X (row k 0) (row k 1) (row k 2) (ix2 (y 1) (y 0)) * W (ix2 0 (y 2))

/-- The store for batch row `g` holds the output block's values there. -/
theorem outPay_at (g : Fin 8) (hs : S512x8.Slices ![0, g.val] S512x1) (y : S8x512x512.Idx) (x : S1x512x512.Idx)
    (h0 : (y 0).val = g.val + (x 0).val) (h1 : (y 1).val = (x 1).val) (h2 : (y 2).val = (x 2).val) :
    outPay L i X W k g.val hs (slab X g) x = outAt L i X W k y := by
  have e0 : y 0 = g := Fin.ext (by have : (x 0).val < 1 := (x 0).isLt; omega)
  have e1 : y 1 = x 1 := Fin.ext h1
  have e2 : y 2 = x 2 := Fin.ext h2
  clear h0 h1 h2
  idx_vars x
  idx_vars y
  obtain rfl : _ = g := e0
  obtain rfl : _ = _ := e1
  obtain rfl : _ = _ := e2
  refine (outPay_apply _ (Fin.isLt _) hs _ _ _ _ _ _ _).trans ?_
  rw [slab_apply]
  unfold k0_pay4 outAt
  pointwise

/-- A batch row is a column of the per-frame statistics. -/
theorem sliceG (g : Fin 8) : S512x8.Slices ![0, g.val] S512x1 := by
  revert g; decide

/-- The eight stores of a run, read back at an index. -/
theorem outPieces_at (y : S8x512x512.Idx) :
    View.canon (List.ofFn fun j : Fin 8 =>
      (⟨Rect.unit ![j.rev.val, 0, 0] ![1, 512, 512] (inbG j.rev), outPay L i X W k j.rev.val (sliceG j.rev) (slab X j.rev)⟩
        : View.Piece (Elt Ideal) S8x512x512 .f32)) y = outAt L i X W k y := by
  canon_tiles x h
  case tile => exact outPay_at L i X W _ _ _ y x h0 h1 h2
  case cover =>
    obtain ⟨j, hj⟩ : ∃ j : Fin 8, j.rev = (y 0 : Fin 8) := ⟨Fin.rev (y 0 : Fin 8), Fin.rev_rev _⟩
    refine ⟨j, fun a => ?_⟩
    rw [hj]
    match a with
    | 0 => exact ⟨le_rfl, Nat.lt_succ_self _⟩
    | 1 => exact ⟨Nat.zero_le _, lt_of_lt_of_eq (y 1).isLt (Nat.zero_add 512).symm⟩
    | 2 => exact ⟨Nat.zero_le _, lt_of_lt_of_eq (y 2).isLt (Nat.zero_add 512).symm⟩

/-- What the carried rows become: each row plus the block's sums, of the elements, of their squares, and of what the means take off. -/
def newRow (q : Fin 3) (g : Fin 8) : EReal :=
  row k q (ix2 0 g) + ∑ r : Fin 512, match q with
    | 0 => rowS X g r
    | 1 => rowQ X g r
    | 2 => corr L i X (row k 0) (ix2 r g)

/-- The sum stored to row 0 holds the new row. -/
theorem rowPay0_at (g : Fin 8) :
    k0_pay47 (extractStridedSlice S512x8 ![0, 0] (cols X) slices_S512x16_o0_0_S512x8) (row k 0) (ix2 0 g) = newRow L i X k 0 g := by
  refine (colSum_apply _ _ 0 g).trans (congrArg _ (Finset.sum_congr rfl fun r _ => ?_))
  pointwise [cols_sum]

/-- The sum stored to row 1 holds the new row. -/
theorem rowPay1_at (g : Fin 8) : k0_pay48 (cols X) (row k 1) (ix2 0 g) = newRow L i X k 1 g := by
  refine (colSum_apply _ _ 0 g).trans (congrArg _ (Finset.sum_congr rfl fun r _ => ?_))
  pointwise [cols_sq]

/-- The sum stored to row 2 holds the new row. -/
theorem rowPay2_at (g : Fin 8) : k0_pay1 (row k 2) (k0_pay49 (corr L i X (row k 0))) (ix2 0 g) = newRow L i X k 2 g :=
  colSum_apply _ _ 0 g

end

/-- Three rows stored into the carried array, read back. -/
theorem rows_read {κ : Kind} {sp : Space} (v : View sig κ sp S8x128 .f32) (f : v.ty.Contents (Elt Ideal)) (P0 P1 P2 : Vec Ideal S1x8 .f32)
    (T : List (View.Piece (Elt Ideal) S8x128 .f32)) (q : Fin 3) (g : Fin 8) :
    row (v.read (Elt Ideal) (v.writes (Elt Ideal) f (⟨Rect.unit ![2, 0] ![1, 8] inb_S8x128_S1x8_2_0, P2⟩
      :: ⟨Rect.unit ![1, 0] ![1, 8] inb_S8x128_S1x8_1_0, P1⟩ :: ⟨Rect.unit ![0, 0] ![1, 8] inb_S8x128_S1x8_0_0, P0⟩ :: T))) q (ix2 0 g)
      = (match q with | 0 => P0 | 1 => P1 | 2 => P2) (ix2 0 g) := by
  unfold row
  rw [View.ld_unit_apply_of (S := S8x128) _ _ _ _ _ (ix2 (⟨q.val, by omega⟩ : Fin 8) (⟨g.val, by omega⟩ : Fin 128))
    (by intro a; match a with | 0 => rfl | 1 => exact (Nat.zero_add _).symm)]
  have hit (o : ℕ) (h : o < 3) (a : Fin 2) : ((ix2 (⟨o, by omega⟩ : Fin 8) (⟨g.val, by omega⟩ : Fin 128) : S8x128.Idx) a).val
      = (![o, 0] : Fin 2 → ℕ) a + ((ix2 0 g : S1x8.Idx) a).val := by
    match a with
    | 0 => rfl
    | 1 => exact (Nat.zero_add _).symm
  match q with
  | 2 => exact View.read_writes_cons_unit_of_mem v f _ _ _ _ _ rfl (hit 2 (by decide))
  | 1 =>
    rw [View.read_writes_cons_unit_of_not_mem v f _ _ _ _ rfl 0 (.inl (by show @LT.lt ℕ _ _ _; exact Nat.lt_of_sub_eq_succ rfl))]
    exact View.read_writes_cons_unit_of_mem v f _ _ _ _ _ rfl (hit 1 (by decide))
  | 0 =>
    rw [View.read_writes_cons_unit_of_not_mem v f _ _ _ _ rfl 0 (.inl (by show @LT.lt ℕ _ _ _; exact Nat.lt_of_sub_eq_succ rfl)),
      View.read_writes_cons_unit_of_not_mem v f _ _ _ _ rfl 0 (.inl (by show @LT.lt ℕ _ _ _; exact Nat.lt_of_sub_eq_succ rfl))]
    exact View.read_writes_cons_unit_of_mem v f _ _ _ _ _ rfl (hit 0 (by decide))

variable (c : Dev nD) (i : grid0.Coords) (arg2 : Memref sig .tc .vmem S8x512x512 .f32) (harg2 : arg2.IsWhole)
  (arg3 : Memref sig .tc .vmem S1x512 .f32) (harg3 : arg3.IsWhole) (arg4 : Memref sig .tc .vmem S8x512x512 .f32) (harg4 : arg4.IsWhole)
  (arg5 : Memref sig .tc .vmem S8x128 .f32) (harg5 : arg5.IsWhole) (arg6 : Memref sig .tc .vmem S512x512 .bf16) (harg6 : arg6.IsWhole)

/-- A later run's output block at an index. -/
theorem out_later (hc0 : ¬cond0_0 i) (x0 : Vec Ideal S8x512x512 .f32) (x1 : Vec Ideal S1x512 .f32) (xs0 : Vec Ideal S8x128 .f32)
    (xs1 : Vec Ideal S512x512 .bf16) (y : S8x512x512.Idx) :
    out0_B_2 (F := Ideal) c i arg2 harg2 arg3 harg3 arg4 harg4 arg5 harg5 arg6 harg6 hc0 x0 x1 xs0 xs1 y = outAt xs1 i x0 x1 xs0 y := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  simp only [View.readAt_eq_ld, harg2.read_unread, harg3.read_unread, harg5.read_unread, harg6.read_unread]
  rw [View.ld_unit_zero (S := S512x512) (by decide), View.ld_unit_zero (S := S1x512) (by decide)]
  exact outPieces_at xs1 i x0 x1 xs0 y

/-- A later run's carried rows. -/
theorem carry_later (hc0 : ¬cond0_0 i) (x0 : Vec Ideal S8x512x512 .f32) (x1 : Vec Ideal S1x512 .f32) (xs0 : Vec Ideal S8x128 .f32)
    (xs1 : Vec Ideal S512x512 .bf16) (q : Fin 3) (g : Fin 8) :
    row (sout0_B_0 (F := Ideal) c i arg2 harg2 arg3 harg3 arg4 harg4 arg5 harg5 arg6 harg6 hc0 x0 x1 xs0 xs1) q (ix2 0 g)
      = newRow xs1 i x0 xs0 q g := by
  unfold sout0_B_0
  unfold kernelRun0_B
  dsimp only
  sl_unfold_words
  simp only [View.readAt_eq_ld, harg2.read_unread, harg3.read_unread, harg5.read_unread, harg6.read_unread]
  rw [View.ld_unit_zero (S := S512x512) (by decide)]
  refine (rows_read _ _ _ _ _ _ q g).trans ?_
  match q with
  | 0 => exact rowPay0_at xs1 i x0 xs0 g
  | 1 => exact rowPay1_at xs1 i x0 xs0 g
  | 2 => exact rowPay2_at xs1 i x0 xs0 g

/-- The first run's output block at an index: that of a run which found zeros and the triangular matrix. -/
theorem out_first (hc0 : cond0_0 i) (x0 : Vec Ideal S8x512x512 .f32) (x1 : Vec Ideal S1x512 .f32) (y : S8x512x512.Idx) :
    out0_A_2 (F := Ideal) c i arg2 harg2 arg3 harg3 arg4 harg4 arg5 harg5 arg6 harg6 hc0 x0 x1 y = outAt (k0_pay3 (F := Ideal)) i x0 x1 (k0_pay2 (F := Ideal)) y := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  simp only [View.readAt_eq_ld, harg2.read_unread, harg3.read_unread]
  rw [View.ld_unit_zero (S := S1x512) (by decide)]
  simp (disch := first | rfl | decide) only [↓View.readCov_skip, View.readCov_fill]
  rw [View.ld_unit_zero (S := S512x512) (by decide)]
  exact outPieces_at (k0_pay3 (F := Ideal)) i x0 x1 (k0_pay2 (F := Ideal)) y

/-- The first run's carried rows: those of a run which found zeros and the triangular matrix. -/
theorem carry_first (hc0 : cond0_0 i) (x0 : Vec Ideal S8x512x512 .f32) (x1 : Vec Ideal S1x512 .f32) (q : Fin 3) (g : Fin 8) :
    row (sout0_A_0 (F := Ideal) c i arg2 harg2 arg3 harg3 arg4 harg4 arg5 harg5 arg6 harg6 hc0 x0 x1) q (ix2 0 g)
      = newRow (k0_pay3 (F := Ideal)) i x0 (k0_pay2 (F := Ideal)) q g := by
  unfold sout0_A_0
  unfold kernelRun0_A
  dsimp only
  sl_unfold_words
  simp only [View.readAt_eq_ld, harg2.read_unread, harg3.read_unread]
  simp (disch := first | rfl | decide) only [↓View.readCov_skip, View.readCov_fill]
  rw [View.ld_unit_zero (S := S512x512) (by decide)]
  refine (rows_read _ _ _ _ _ _ q g).trans ?_
  match q with
  | 0 => exact rowPay0_at (k0_pay3 (F := Ideal)) i x0 (k0_pay2 (F := Ideal)) g
  | 1 => exact rowPay1_at (k0_pay3 (F := Ideal)) i x0 (k0_pay2 (F := Ideal)) g
  | 2 => exact rowPay2_at (k0_pay3 (F := Ideal)) i x0 (k0_pay2 (F := Ideal)) g

/-- The first run leaves the triangular matrix. -/
theorem tri_first (hc0 : cond0_0 i) (x0 : Vec Ideal S8x512x512 .f32) (x1 : Vec Ideal S1x512 .f32) :
    sout0_A_1 (F := Ideal) c i arg2 harg2 arg3 harg3 arg4 harg4 arg5 harg5 arg6 harg6 hc0 x0 x1 = (k0_pay3 (F := Ideal)) := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  exact View.canon_unit_zero (by decide) _ _

/-- The zeros the first run writes. -/
theorem zeros_row (q : Fin 3) (g : Fin 8) : row (k0_pay2 (F := Ideal)) q (ix2 0 g) = 0 := by
  unfold row
  rw [View.ld_unit_apply_of (S := S8x128) _ _ _ _ _ (ix2 (⟨q.val, by omega⟩ : Fin 8) (⟨g.val, by omega⟩ : Fin 128))
    (by intro a; match a with | 0 => rfl | 1 => exact (Nat.zero_add _).symm)]
  unfold_payloads
  pointwise

end Cert.KernelIdeal.Block

end
-- ==== Proof.Sweep.lean ====
/-
  What the carried rows and the output blocks hold after each grid point. Before the point `n` the three carried rows are the sums
  over the frames before the block; so within the block a masked sum plus the carried row is a sum over all frames up to
  the index's, and the output block is the normalised element with the variance from the squares.
-/
module

public import proofs.«01_k».proof.Proof.ReadBack

@[expose] public section

set_option maxRecDepth 16384

noncomputable section

namespace Cert.KernelIdeal.Block

open Cert.KernelIdeal Cert.KernelIdeal.Gen Idealize.ShloMosaic Idealize.ShloMosaic.TcCoe Cert.Series

section

variable (x : (⟨3, ![8, 8192, 512]⟩ : Shape).Idx → EReal)

/-- What each of the three carried rows sums over the frames. -/
def carried (q : Fin 3) (g : Fin 8) (t : ℕ) : EReal :=
  match q with
  | 0 => frame (rowOf x g) t
  | 1 => frameSq (rowOf x g) t
  | 2 => takeOff (rowOf x g) t

variable (n : ℕ) (i : grid0.Coords) (hi : (i 1).val = n) (X : Vec Ideal S8x512x512 .f32)
  (hX : ∀ (g : Fin 8) (r c : Fin 512), X (ix3 g r c) = rowOf x g (512 * n + r.val) c) (k : Vec Ideal S8x128 .f32)
  (hk : ∀ (q : Fin 3) (g : Fin 8), row k q (ix2 0 g) = ∑ t ∈ Finset.range (512 * n), carried x q g t)

include hX in
/-- A block's row sum is the frame's. -/
theorem rowS_eq (g : Fin 8) (r : Fin 512) : rowS X g r = frame (rowOf x g) (512 * n + r.val) :=
  Finset.sum_congr rfl fun c _ => hX g r c

include hX in
/-- A block's row sum of squares is the frame's. -/
theorem rowQ_eq (g : Fin 8) (r : Fin 512) : rowQ X g r = frameSq (rowOf x g) (512 * n + r.val) :=
  Finset.sum_congr rfl fun c _ => by rw [hX g r c]

include hi in
/-- The block's reciprocal is that of the number of elements up to the frame. -/
theorem rcp_eq (r : Fin 512) : (k0_pay5 (F := Ideal) i) (ix2 r 0) = Ideal.div 1 (counted (512 * n + r.val) : EReal) := by
  rw [rcp_apply, hi]
  unfold counted
  rw [show n * 512 + 1 + r.val = 512 * n + r.val + 1 by omega]

include hi hX hk in
/-- The block's mean is the running mean. -/
theorem mean_eq (g : Fin 8) (r : Fin 512) :
    mean (k0_pay3 (F := Ideal)) i X (row k 0) (ix2 r g) = runMean (rowOf x g) (512 * n + r.val) := by
  rw [mean_apply, rcp_eq n i hi, hk]
  unfold runMean
  rw [← masked_sum]
  simp only [tri_apply, rowS_eq x n X hX]
  rfl

include hi hX hk in
/-- What the block's mean takes off is what the running mean takes off. -/
theorem corr_eq (g : Fin 8) (r : Fin 512) :
    corr (k0_pay3 (F := Ideal)) i X (row k 0) (ix2 r g) = takeOff (rowOf x g) (512 * n + r.val) := by
  rw [corr_apply, mean_eq x n i hi X hX k hk, rowS_eq x n X hX]
  rfl

include hi hX hk in
/-- The block's reciprocal standard deviation is from the variance from the squares. -/
theorem inv_eq (g : Fin 8) (r : Fin 512) :
    inv (k0_pay3 (F := Ideal)) i X (row k 0) (row k 1) (row k 2) (ix2 r g)
      = Ideal.rsqrt (varSquares (rowOf x g) (512 * n + r.val) + Ideal.ofBits .f32 0x3727C5AC#32) := by
  rw [inv_apply, rcp_eq n i hi, hk, hk]
  unfold varSquares
  rw [← masked_sum, ← masked_sum]
  simp only [tri_apply, rowQ_eq x n X hX, corr_eq x n i hi X hX k hk]
  rfl

include hi hX hk in
/-- The output block holds the normalised elements. -/
theorem outAt_eq (W : Vec Ideal S1x512 .f32) (g : Fin 8) (r c : Fin 512) :
    outAt (k0_pay3 (F := Ideal)) i X W k (ix3 g r c)
      = normed (rowOf x g) (varSquares (rowOf x g) (512 * n + r.val)) (W (ix2 0 c)) (512 * n + r.val) c := by
  show (X (ix3 g r c) - mean (k0_pay3 (F := Ideal)) i X (row k 0) (ix2 r g)) * inv (k0_pay3 (F := Ideal)) i X (row k 0) (row k 1) (row k 2) (ix2 r g) * W (ix2 0 c) = _
  rw [hX, mean_eq x n i hi X hX k hk, inv_eq x n i hi X hX k hk]
  rfl

include hi hX hk in
/-- The new rows are the sums over the frames before the next block. -/
theorem newRow_eq (q : Fin 3) (g : Fin 8) :
    newRow (k0_pay3 (F := Ideal)) i X k q g = ∑ t ∈ Finset.range (512 * (n + 1)), carried x q g t := by
  unfold newRow
  rw [hk, ← block_sum]
  congr 1
  refine Finset.sum_congr rfl fun r _ => ?_
  match q with
  | 0 => exact rowS_eq x n X hX g r
  | 1 => exact rowQ_eq x n X hX g r
  | 2 => exact corr_eq x n i hi X hX k hk g r

end

variable (m : (ℓ : Loc nD τ sig) → Buf (Elt Ideal) ℓ) (c : Dev nD)

/-- The input array. -/
abbrev input : (⟨3, ![8, 8192, 512]⟩ : Shape).Idx → EReal := m ((c : Thread nD τ).loc main_arg0)
/-- The weights. -/
abbrev weights : (⟨1, ![512]⟩ : Shape).Idx → EReal := m ((c : Thread nD τ).loc main_arg1)

/-- A grid point's second coordinate is its position; the input's block there starts at that many blocks of frames. -/
theorem points : ∀ t : Fin cfg0.N, ((grid0.coords t) 1).val = t.val ∧ win0_0.index t (0 : Fin 3) = 0 ∧ win0_0.index t (1 : Fin 3) = t.val
    ∧ win0_0.index t (2 : Fin 3) = 0 ∧ win0_1.index t (0 : Fin 2) = 0 ∧ win0_1.index t (1 : Fin 2) = 0 :=
  (by decide +kernel : ∀ t : Fin grid0.N, _)

/-- The input's block at a point. -/
theorem block_apply (t : Fin cfg0.N) (g : Fin 8) (r l : Fin 512) :
    (iblk m c 0 t : Vec Ideal S8x512x512 .f32) (ix3 g r l) = rowOf (input m c) g (512 * t.val + r.val) l := by
  obtain ⟨-, h0, h1, h2, -⟩ := points t
  have ht : t.val < 16 := lt_of_lt_of_eq t.isLt N_0
  have hr := r.isLt
  unfold rowOf
  rw [dif_pos (by omega)]
  show V m c main_arg0 (((cfg0.win 0).blk t).view.emb (ix3 g r l)) = _
  rw [V_main_arg0]
  refine congrArg (input m c) (funext fun a => Fin.ext ?_)
  match a with
  | ⟨0, _⟩ => show win0_0.index t (0 : Fin 3) * 8 + 1 * g.val = g.val; omega
  | ⟨1, _⟩ => show win0_0.index t (1 : Fin 3) * 512 + 1 * r.val = 512 * t.val + r.val; omega
  | ⟨2, _⟩ => show win0_0.index t (2 : Fin 3) * 512 + 1 * l.val = l.val; omega

/-- The weights' block at a point. -/
theorem weights_apply (t : Fin cfg0.N) (l : Fin 512) :
    (iblk m c 1 t : Vec Ideal S1x512 .f32) (ix2 0 l) = weights m c (ix1 l) := by
  obtain ⟨-, -, -, -, h0, h1⟩ := points t
  show V m c main_v0 (((cfg0.win 1).blk t).view.emb (ix2 0 l)) = _
  have hV : V m c main_v0 = shapeCast S1x512 (weights m c) shapeCasts_S512_S1x512 := by
    unfold V hostOps0
    after_results
    rfl
  rw [hV]
  rw [show ((cfg0.win 1).blk t).view.emb (ix2 0 l) = ix2 0 l from ?_]
  · pointwise
  refine funext fun a => Fin.ext ?_
  match a with
  | ⟨0, _⟩ => show win0_1.index t (0 : Fin 2) * 1 + 1 * 0 = 0; omega
  | ⟨1, _⟩ => show win0_1.index t (1 : Fin 2) * 512 + 1 * l.val = l.val; omega

/-- What the first point leaves, over its own blocks. -/
theorem first_point (t : Fin cfg0.N) (h0 : t.val % 16 = 0) :
    (∀ y, (outsAt0 m c t.val t.isLt).1 y = outAt (k0_pay3 (F := Ideal)) (grid0.coords t) (iblk m c 0 t) (iblk m c 1 t) (k0_pay2 (F := Ideal)) y)
    ∧ (∀ (q : Fin 3) (g : Fin 8), row (outsAt0 m c t.val t.isLt).2.1 q (ix2 0 g)
      = newRow (k0_pay3 (F := Ideal)) (grid0.coords t) (iblk m c 0 t) (k0_pay2 (F := Ideal)) q g)
    ∧ (outsAt0 m c t.val t.isLt).2.2 = (k0_pay3 (F := Ideal)) := by
  have e := outsAt0_A m c t h0
  rw [e]
  dsimp only
  exact ⟨fun y => out_first .., fun q g => carry_first .., tri_first ..⟩

/-- What a later point leaves, over its own blocks and what the point before it left. -/
theorem later_point (n : ℕ) (hn : n + 1 < cfg0.N) (hL : (outsAt0 m c n (Nat.lt_of_succ_lt hn)).2.2 = (k0_pay3 (F := Ideal))) :
    (∀ y, (outsAt0 m c (n + 1) hn).1 y = outAt (k0_pay3 (F := Ideal)) (grid0.coords ⟨n + 1, hn⟩) (iblk m c 0 ⟨n + 1, hn⟩)
      (iblk m c 1 ⟨n + 1, hn⟩) (outsAt0 m c n (Nat.lt_of_succ_lt hn)).2.1 y)
    ∧ (∀ (q : Fin 3) (g : Fin 8), row (outsAt0 m c (n + 1) hn).2.1 q (ix2 0 g)
      = newRow (k0_pay3 (F := Ideal)) (grid0.coords ⟨n + 1, hn⟩) (iblk m c 0 ⟨n + 1, hn⟩) (outsAt0 m c n (Nat.lt_of_succ_lt hn)).2.1 q g)
    ∧ (outsAt0 m c (n + 1) hn).2.2 = (k0_pay3 (F := Ideal)) := by
  have hN : n + 1 < 16 := lt_of_lt_of_eq hn N_0
  have e := (Value.outsAt0_succ m c n hn).trans
    (Value.stAt0_B m c ⟨n + 1, hn⟩ _ (by show ¬(n + 1) % 16 = 0; omega))
  generalize outsAt0 m c (n + 1) hn = new at e ⊢
  generalize outsAt0 m c n (Nat.lt_of_succ_lt hn) = old at e hL ⊢
  obtain ⟨o, k, L⟩ := old
  obtain rfl : L = (k0_pay3 (F := Ideal)) := hL
  rw [e]
  dsimp only
  exact ⟨fun y => out_later .., fun q g => carry_later .., rfl⟩

/-- After the point `n`: the output block holds the normalised elements, the carried rows the sums over the frames so far, and the
matrix is the triangular one. -/
theorem after_point (n : ℕ) (hn : n < cfg0.N) :
    (∀ (g : Fin 8) (r l : Fin 512), (outsAt0 m c n hn).1 (ix3 g r l)
      = normed (rowOf (input m c) g) (varSquares (rowOf (input m c) g) (512 * n + r.val)) (weights m c (ix1 l)) (512 * n + r.val) l)
    ∧ (∀ (q : Fin 3) (g : Fin 8), row (outsAt0 m c n hn).2.1 q (ix2 0 g) = ∑ t ∈ Finset.range (512 * (n + 1)), carried (input m c) q g t)
    ∧ (outsAt0 m c n hn).2.2 = (k0_pay3 (F := Ideal)) := by
  have hX := block_apply m c ⟨n, hn⟩
  have hi := (points ⟨n, hn⟩).1
  induction n with
  | zero =>
    obtain ⟨ho, hr, hL⟩ := first_point m c ⟨0, hn⟩ (Nat.zero_mod _)
    have hk (q : Fin 3) (g : Fin 8) : row (k0_pay2 (F := Ideal)) q (ix2 0 g) = ∑ t ∈ Finset.range (512 * 0), carried (input m c) q g t := by
      rw [zeros_row]; rfl
    refine ⟨fun g r l => ?_, fun q g => ?_, hL⟩
    · exact (ho _).trans ((outAt_eq (input m c) 0 _ hi _ hX _ hk _ g r l).trans (by rw [weights_apply]))
    · exact (hr q g).trans (newRow_eq (input m c) 0 _ hi _ hX _ hk q g)
  | succ n ih =>
    obtain ⟨-, hk, hL⟩ := ih (Nat.lt_of_succ_lt hn) (block_apply m c ⟨n, _⟩) (points ⟨n, _⟩).1
    obtain ⟨ho, hr, hL⟩ := later_point m c n hn hL
    refine ⟨fun g r l => ?_, fun q g => ?_, hL⟩
    · exact (ho _).trans ((outAt_eq (input m c) (n + 1) _ hi _ hX _ hk _ g r l).trans (by rw [weights_apply]))
    · exact (hr q g).trans (newRow_eq (input m c) (n + 1) _ hi _ hX _ hk q g)

/-- The array the kernel leaves, at an index. -/
theorem array_apply (g : Fin 8) (t : Fin 8192) (l : Fin 512) :
    Value.G2 m c (ix3 g t l) = normed (rowOf (input m c) g) (varSquares (rowOf (input m c) g) t.val) (weights m c (ix1 l)) t.val l := by
  have hg := g.isLt
  have ht := t.isLt
  have hl := l.isLt
  have hp : Value.pt2Of (ix3 g t l) = t.val / 512 := by
    show 16 * (g.val / 8 - 0) + 1 * (t.val / 512 - 0) + 1 * (l.val / 512 - 0) = t.val / 512
    omega
  have hN : Value.pt2Of (ix3 g t l) < cfg0.N := by
    rw [hp]; exact lt_of_lt_of_eq (by omega : t.val / 512 < 16) N_0.symm
  have hloc : Value.loc2Of (ix3 g t l) = ix3 g ⟨t.val % 512, Nat.mod_lt _ (by decide)⟩ l := by
    refine funext fun a => Fin.ext ?_
    match a with
    | ⟨0, _⟩ => exact Nat.mod_eq_of_lt hg
    | ⟨1, _⟩ => rfl
    | ⟨2, _⟩ => exact Nat.mod_eq_of_lt hl
  have h := (after_point m c _ hN).1 g ⟨t.val % 512, Nat.mod_lt _ (by decide)⟩ l
  rw [show 512 * Value.pt2Of (ix3 g t l) + t.val % 512 = t.val by rw [hp]; omega, Value.outsAt0_sweep, ← hloc] at h
  unfold Value.G2
  rw [dif_pos hN]
  exact h

end Cert.KernelIdeal.Block

end
-- ==== Proof.Reference.lean ====
/-
  What the reference computes, read at an index: its running sums are sums over the frames up to the index's, so its result is
  the normalised element with the variance from the squared distances to the running means.
-/
module

public import proofs.«01_k».proof.Proof.Gen.ReferenceIdeal.Run
public import proofs.«01_k».proof.Proof.Series
public import Idealize.ShloMosaic.Lib.ValueLayout
public import Idealize.ShloMosaic.Lib.IdealHost
public import Idealize.ShloMosaic.Lib.Pointwise
public import Idealize.ShloMosaic.Lib.WordCmp

@[expose] public section

set_option maxRecDepth 16384

noncomputable section

namespace Cert.ReferenceIdeal.Row

open Cert.ReferenceIdeal Cert.ReferenceIdeal.Gen Idealize.ShloMosaic Idealize.ShloMosaic.TcCoe Cert.Series

/-- A left fold of additions from zero is the sum. -/
theorem foldl_add_eq_sum (n : ℕ) (g : Fin n → EReal) : (List.finRange n).foldl (fun r i => r + g i) 0 = ∑ i, g i := by
  rw [Fin.sum_univ_def, List.sum_eq_foldl, List.foldl_map]

/-- The places of a window of one row, all frames and one column are the frames. -/
def placeEquiv : (⟨3, ![1, 8192, 1]⟩ : Shape).Idx ≃ Fin 8192 where
  toFun p := p 1
  invFun k := ix3 (0 : Fin 1) k (0 : Fin 1)
  left_inv p := funext fun a => match a with
    | 0 => Subsingleton.elim (α := Fin 1) _ _
    | 1 => rfl
    | 2 => Subsingleton.elim (α := Fin 1) _ _
  right_inv _ := rfl

/-- The windowed sum over all frames, padded below, is at each frame the sum over the frames up to it. -/
theorem window_sum (x : FVec Ideal S8x8192x1 .f32) (a : ℕ → EReal) (b : Fin 8) (hx : ∀ t : Fin 8192, x (ix3 b t 0) = a t.val)
    (init : FVec Ideal S_ .f32) (hinit : ∀ i, init i = 0) (T : Fin 8192) :
    Host.reduceWindowAdd (F := Ideal) ![1, 8192, 1] ![1, 1, 1] ![0, 8191, 0] ![0, 0, 0] x init reduceWindows_S8x8192x1_S8x8192x1_w1s1p0_0_w8192s1p8191_0_w1s1p0_0 h_S_
        (ix3 b T 0) = ∑ t ∈ Finset.range (T.val + 1), a t := by
  have hT := T.isLt
  unfold Host.reduceWindowAdd
  rw [Ideal.hostReduceWindowAdd_def, hinit]
  unfold Ideal.hostReduceWindowAdd Host.reduceWindow
  refine (foldl_add_eq_sum _ _).trans ?_
  refine (Finset.sum_congr (g := fun n => (fun k : ℕ => if 8191 ≤ T.val + k then a (T.val + k - 8191) else 0)
    (placeEquiv ((Shape.rowMajor (⟨3, ![1, 8192, 1]⟩ : Shape)).symm n)).val) rfl fun n _ => ?_).trans ?_
  · let p : (⟨3, ![1, 8192, 1]⟩ : Shape).Idx := (Shape.rowMajor (⟨3, ![1, 8192, 1]⟩ : Shape)).symm n
    have p0 : (p 0).val < 1 := (p 0).isLt
    have p1 : (p 1).val < 8192 := (p 1).isLt
    have p2 : (p 2).val < 1 := (p 2).isLt
    show _ = if 8191 ≤ T.val + (p 1).val then a (T.val + (p 1).val - 8191) else 0
    split
    · next hin =>
      have h1 : 8191 ≤ T.val * 1 + (p 1).val ∧ T.val * 1 + (p 1).val - 8191 < 8192 := hin 1
      rw [if_pos (by omega), ← hx ⟨T.val + (p 1).val - 8191, by omega⟩]
      refine congrArg x (funext fun d => Fin.ext ?_)
      match d with
      | 0 => show b.val * 1 + (p 0).val - 0 = b.val; omega
      | 1 => show T.val * 1 + (p 1).val - 8191 = T.val + (p 1).val - 8191; omega
      | 2 => show 0 * 1 + (p 2).val - 0 = 0; omega
    · next hin =>
      rw [if_neg]
      intro hle
      refine hin fun d => ?_
      match d with
      | 0 => show 0 ≤ b.val * 1 + (p 0).val ∧ b.val * 1 + (p 0).val - 0 < 8; have := b.isLt; omega
      | 1 => show 8191 ≤ T.val * 1 + (p 1).val ∧ T.val * 1 + (p 1).val - 8191 < 8192; omega
      | 2 => show 0 ≤ 0 * 1 + (p 2).val ∧ 0 * 1 + (p 2).val - 0 < 1; omega
  rw [Equiv.sum_comp (Shape.rowMajor (⟨3, ![1, 8192, 1]⟩ : Shape)).symm
      (fun p => (fun k : ℕ => if 8191 ≤ T.val + k then a (T.val + k - 8191) else 0) (placeEquiv p).val),
    Equiv.sum_comp placeEquiv (fun k => (fun k : ℕ => if 8191 ≤ T.val + k then a (T.val + k - 8191) else 0) k.val),
    Fin.sum_univ_eq_sum_range (fun k : ℕ => if 8191 ≤ T.val + k then a (T.val + k - 8191) else 0) 8192,
    ← Finset.sum_filter]
  refine Finset.sum_nbij' (fun k => T.val + k - 8191) (fun t => t + 8191 - T.val) ?_ ?_ ?_ ?_ ?_
  all_goals intro k hk; simp only [Finset.mem_filter, Finset.mem_range] at hk ⊢; try omega

section

variable (x : FVec Ideal S8x8192x512 .f32) (w : FVec Ideal S512 .f32)

/-- The number of elements up to each frame, as the program computes it. -/
def counts : FVec Ideal S8192 .f32 :=
  mulf (addf (broadcastInDim S8192 ![] bcast_S_S8192 (constant S_ .f32 0x3F800000#32)) (sitofp .f32 (iotaInDim S8192 32 0)))
    (broadcastInDim S8192 ![] bcast_S_S8192 (constant S_ .f32 0x44000000#32))

/-- The divisor of both running sums: the number of elements, one at least. -/
def divisor : FVec Ideal S8x8192x1 .f32 :=
  broadcastInDim S8x8192x1 ![0, 1, 2] bcast_S1x8192x1_S8x8192x1_0_1_2 (maximumf (shapeCast _ counts shapeCasts_S8192_S1x8192x1)
    (broadcastInDim S1x8192x1 ![] bcast_S_S1x8192x1 (constant S_ .f32 0x3F800000#32)))

/-- The running mean over elements summed per frame. -/
def running (y : FVec Ideal S8x8192x512 .f32) : FVec Ideal S8x8192x1 .f32 :=
  Host.divf (Host.reduceWindowAdd ![1, 8192, 1] ![1, 1, 1] ![0, 8191, 0] ![0, 0, 0] (broadcastInDim S8x8192x1 ![0, 1] bcast_S8x8192_S8x8192x1_0_1
    (Host.reduceAdd y (constant S_ .f32 0x00000000#32) reducesTo_S8x8192x512_S8x8192_d2 h_S_)) (broadcastInDim S_ ![] bcast_S_S_ (constant S_ .f32 0x00000000#32))
    reduceWindows_S8x8192x1_S8x8192x1_w1s1p0_0_w8192s1p8191_0_w1s1p0_0 h_S_) divisor

/-- The elements less their running means. -/
def centred : FVec Ideal S8x8192x512 .f32 :=
  subf x (broadcastInDim S8x8192x512 ![0, 1, 2] bcast_S8x8192x1_S8x8192x512_0_1_2 (running x))

/-- The reference's result. -/
def result : FVec Ideal S8x8192x512 .f32 :=
  mulf (mulf (centred x) (broadcastInDim S8x8192x512 ![0, 1, 2] bcast_S8x8192x1_S8x8192x512_0_1_2 (Host.rsqrt (addf (running (mulf (centred x) (centred x)))
    (broadcastInDim S8x8192x1 ![] bcast_S_S8x8192x1 (constant S_ .f32 0x3727C5AC#32))))))
    (broadcastInDim S8x8192x512 ![0, 1, 2] bcast_S1x1x512_S8x8192x512_0_1_2 (broadcastInDim S1x1x512 ![2] bcast_S512_S1x1x512_2 w))

/-- The number of elements up to a frame. -/
theorem counts_apply (t : Fin 8192) : counts (ix1 t) = ((counted t.val : ℝ) : EReal) := by
  have ht := t.isLt
  unfold counts
  pointwise
  rw [word_512]
  show (1 + ((BitVec.toInt _ : ℝ) : EReal)) * _ = _
  rw [WordCmp.toInt_ofNat_of_lt (by omega)]
  unfold counted
  push_cast
  rw [add_comm]

/-- The divisor is the number of elements. -/
theorem divisor_apply (b : Fin 8) (t : Fin 8192) : divisor (ix3 b t 0) = ((counted t.val : ℝ) : EReal) := by
  unfold divisor
  pointwise [counts_apply]
  refine max_eq_left ?_
  have h : (1 : ℝ) ≤ counted t.val := by
    unfold counted
    push_cast
    nlinarith [Nat.cast_nonneg (α := ℝ) t.val]
  exact_mod_cast h

/-- A running mean at a frame. -/
theorem running_apply (y : FVec Ideal S8x8192x512 .f32) (b : Fin 8) (f : ℕ → Fin 512 → EReal) (hf : ∀ (t : Fin 8192) c, y (ix3 b t c) = f t.val c)
    (T : Fin 8192) : running y (ix3 b T 0) = (∑ t ∈ Finset.range (T.val + 1), ∑ c, f t c) * Ideal.div 1 (counted T.val : EReal) := by
  unfold running
  pointwise [divisor_apply]
  rw [window_sum _ (fun t => ∑ c, f t c) b (fun t => by pointwise; simp only [hf]) _ (fun i => by pointwise)]
  exact (Ideal.mul_one_div (by exact_mod_cast (counted_pos T.val).ne')).symm

/-- The elements less their running means, at an index. -/
theorem centred_apply (b : Fin 8) (t : Fin 8192) (c : Fin 512) :
    centred x (ix3 b t c) = rowOf x b t.val c - runMean (rowOf x b) t.val := by
  unfold centred
  pointwise
  rw [running_apply x b (rowOf x b) (fun t c => (rowOf_apply x b t c).symm), rowOf_apply]
  rfl

/-- The reference's result at an index. -/
theorem result_apply (b : Fin 8) (t : Fin 8192) (c : Fin 512) :
    result x w (ix3 b t c) = normed (rowOf x b) (varDistances (rowOf x b) t.val) (w (ix1 c)) t.val c := by
  unfold result
  pointwise [centred_apply]
  rw [running_apply _ b (fun t c => (rowOf x b t c - runMean (rowOf x b) t) * (rowOf x b t c - runMean (rowOf x b) t))
    (fun t c => by pointwise [centred_apply])]
  rfl

end

end Cert.ReferenceIdeal.Row

end
-- ==== Proof.lean ====
/-
  The certificate. The frames are the generated ones, the reference's from its run. For the value, the kernel's array at
  an index (Proof/Sweep.lean) and the reference's (Proof/Reference.lean) are the same normalised element with two variances, which
  agree (Proof/Series.lean) since the precondition says that no element is minus infinity.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Sweep
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem Cert.Series

/-- The one shape relation of the precondition. -/
theorem pre_facts : Cert.Pre_above_minus_infinity.Facts where
  bcast_S_S8x8192x512 := by decide

/-- Where the precondition is all ones, no element is minus infinity. -/
theorem ne_bot_of_pre [Cert.Pre_above_minus_infinity.Facts] (x : FVec Ideal Cert.Pre_above_minus_infinity.S8x8192x512 .f32)
    (w : FVec Ideal Cert.Pre_above_minus_infinity.S512 .f32)
    (h : Cert.Pre_above_minus_infinity.fn (F := Ideal) x w = fun _ => 1#1) (i : Cert.Pre_above_minus_infinity.S8x8192x512.Idx) :
    x i ≠ (⊥ : EReal) := by
  intro hx
  have hi : BitVec.ofBool (decide (Ideal.ofBits .f32 0xFF800000#32 < x i)) = 1#1 := congrFun h i
  rw [hx] at hi
  simp at hi

/-- The kernel's array is the reference's, where no element is minus infinity. -/
theorem value_eq (m : (ℓ : Loc Cert.KernelIdeal.nD Cert.KernelIdeal.τ Cert.KernelIdeal.sig) → Buf (Elt Ideal) ℓ) (c : Dev Cert.KernelIdeal.nD)
    (hx : ∀ i, Cert.KernelIdeal.Block.input m c i ≠ ⊥) :
    Cert.ReferenceIdeal.Row.result (Cert.KernelIdeal.Block.input m c) (Cert.KernelIdeal.Block.weights m c) = Cert.KernelIdeal.Value.G2 m c := by
  funext i
  obtain ⟨b, t, l, rfl⟩ : ∃ (b : Fin 8) (t : Fin 8192) (l : Fin 512), i = ix3 b t l :=
    ⟨i 0, i 1, i 2, funext fun a => by match a with | ⟨0, _⟩ => rfl | ⟨1, _⟩ => rfl | ⟨2, _⟩ => rfl⟩
  refine (Cert.ReferenceIdeal.Row.result_apply _ _ b t l).trans ?_
  rw [← var_eq _ (rowOf_ne_bot _ hx b)]
  exact (Cert.KernelIdeal.Block.array_apply m c b t l).symm

/-- The reference runs, keeps its arguments and leaves every counter at zero: it has no semaphores. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results. -/
theorem algebraic [Cert.Pre_above_minus_infinity.Facts] : algebraic_KernelIdeal_ReferenceIdeal_pre_above_minus_infinity := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact value_eq m c (ne_bot_of_pre _ _ (hpre c))

/-- All the claims. -/
theorem claim : Cert.Claim :=
  have := pre_facts
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial, (trivial : preserves_Kernel_KernelIdeal), algebraic⟩

end Cert.Proof

end
